-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x1024 : Shape := ⟨3, ![4, 8192, 1024]⟩
abbrev S8192x1024 : Shape := ⟨2, ![8192, 1024]⟩
abbrev S1024x1024 : Shape := ⟨2, ![1024, 1024]⟩
abbrev S1x8192x1024 : Shape := ⟨3, ![1, 8192, 1024]⟩

abbrev nBuf : Space → Nat
  | .hbm => 4
  | .vmem => 4
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S8192x1024, .f32⟩
  | .hbm, ⟨3, _⟩ => ⟨S1x8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4x8192x1024 : Shape := ⟨3, ![4, 8192, 1024]⟩
abbrev S8192x1024 : Shape := ⟨2, ![8192, 1024]⟩
abbrev S8192 : Shape := ⟨1, ![8192]⟩
abbrev S_ : Shape := ⟨0, ![]⟩
abbrev S1x8192 : Shape := ⟨2, ![1, 8192]⟩
abbrev S1x8192x1 : Shape := ⟨3, ![1, 8192, 1]⟩
abbrev S1 : Shape := ⟨1, ![1]⟩
abbrev S1x1x1 : Shape := ⟨3, ![1, 1, 1]⟩
abbrev S1x8192x1024 : Shape := ⟨3, ![1, 8192, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i32⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S1x8192, .i32⟩
  | .hbm, ⟨10, _⟩ => ⟨S_, .i32⟩
  | .hbm, ⟨11, _⟩ => ⟨S1x8192, .i32⟩
  | .hbm, ⟨12, _⟩ => ⟨S1x8192, .i1⟩
  | .hbm, ⟨13, _⟩ => ⟨S_, .i32⟩
  | .hbm, ⟨14, _⟩ => ⟨S1x8192, .i32⟩
  | .hbm, ⟨15, _⟩ => ⟨S1x8192, .i32⟩
  | .hbm, ⟨16, _⟩ => ⟨S1x8192, .i32⟩
  | .hbm, ⟨17, _⟩ => ⟨S1x8192x1, .i32⟩
  | .hbm, ⟨18, _⟩ => ⟨S1, .i32⟩
  | .hbm, ⟨19, _⟩ => ⟨S_, .i32⟩
  | .hbm, ⟨20, _⟩ => ⟨S1x8192x1, .i32⟩
  | .hbm, ⟨21, _⟩ => ⟨S1x8192x1, .i1⟩
  | .hbm, ⟨22, _⟩ => ⟨S1x1x1, .i32⟩
  | .hbm, ⟨23, _⟩ => ⟨S1x8192x1, .i32⟩
  | .hbm, ⟨24, _⟩ => ⟨S1x8192x1, .i1⟩
  | .hbm, ⟨25, _⟩ => ⟨S1x8192x1, .i1⟩
  | .hbm, ⟨26, _⟩ => ⟨S_, .i1⟩
  | .hbm, ⟨27, _⟩ => ⟨S1x8192, .i1⟩
  | .hbm, ⟨28, _⟩ => ⟨S1x8192x1024, .f32⟩
  | .hbm, ⟨29, _⟩ => ⟨S1x8192x1024, .i1⟩
  | .hbm, ⟨30, _⟩ => ⟨S_, .f32⟩
  | .hbm, ⟨31, _⟩ => ⟨S1x8192x1024, .f32⟩
  | .hbm, ⟨32, _⟩ => ⟨S1x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v6 : Ref sig .tc := ⟨.hbm, 32, rfl⟩

abbrev nD : Nat := 1
abbrev τ : Topo := Topo.v7x

variable {F : FTy → Type} [FloatOps F]
-- ==== Proof.Blocks.lean ====
/-
  What the kernel leaves. It copies the table block by block, eight blocks of 1024 rows each. The blocks cover the kernel's
  array, and each one holds the table's rows from the same place, so the array ends equal to the table. One operation
  follows, which gives the array a leading axis of extent one. The statements hold for any float values.
-/
module

public import proofs.«01_k».proof.Proof.Gen.KernelIdeal.Frame
public import Idealize.ShloMosaic.Lib.Pipeline.ValueKit

@[expose] public section

noncomputable section

namespace Cert.KernelIdeal.Blocks

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The table on device `c`, as launched. -/
abbrev table (c : Dev nD) : FVec F S8192x1024 .f32 := m ((c : Thread nD τ).loc main_arg1)

/-- The body stores the whole of the block that it loads: it leaves the block itself. -/
theorem stored_eq (x : Vec F S1024x1024 .f32) : out0_1 x = x := by
  have hz : (![0, 0] : Fin 2 → Nat) = fun _ => 0 := by decide
  unfold out0_1
  rw [View.canon_unit_zero hz, View.ld_unit_zero hz]

/-- The array that the kernel writes ends equal to the table. -/
theorem copied (c : Dev nD) : (dats m 0 c).arrAt 1 cfg0.N = table m c :=
  (dats m 0 c).arrAt_eq_of_covers 1 (table m c) (by decide +kernel) fun t _ y => by
    rw [after0_1, stored_eq]
    rfl

/-- The result: the table with a leading axis of extent one. -/
theorem result_eq (c : Dev nD) : Pipeline.afterTail₀ cfgs (dats m) 0 (V0 m) [hostOps1] c main_v1
    = broadcastInDim S1x8192x1024 ![1, 2] bcast_S8192x1024_S1x8192x1024_1_2 (table m c) := by
  unfold Pipeline.afterTail₀
  simp only [hostOps1, List.flatten_cons, List.flatten_nil, List.append_nil, StableHlo.after_cons, StableHlo.after_nil]
  rw [StableHlo.unary_result]
  exact congrArg (broadcastInDim S1x8192x1024 ![1, 2] bcast_S8192x1024_S1x8192x1024_1_2)
    ((Pipeline.withArrays_arr spec0 launch0.win.arr_inj c (V0 m c) (fun w => (dats m 0 c).arrAt w cfg0.N) 1).trans (copied m c))

/-- THE RUN READ: the kernel ends with its result holding the table with a leading axis of extent one, and its two
    arguments unchanged. -/
theorem run_value : θ_run defs (onTc (τ := τ) (main (F := F))) ⟨m, fun _ => 0, ρ⟩ fun r => ∀ c : Dev nD,
      r.2.mem ((c : Thread nD τ).loc main_v1)
          = broadcastInDim S1x8192x1024 ![1, 2] bcast_S8192x1024_S1x8192x1024_1_2 (table m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono
    (fun _ h c => ⟨((h.1 c).2 main_v1 (Pipeline.mem_restRefs_of main_v1 (by decide) (by decide))).trans (result_eq m c), h.2 c⟩)
    (θ_run_and (run_main m ρ) (unchanged m ρ))

end Cert.KernelIdeal.Blocks

end
-- ==== Proof.Lookup.lean ====
/-
  What the reference computes. It looks the table up at the positions 0, 1, ..., 8191 in turn, with the usual care for an
  index that is negative or past the end. No position is either, so the lookup reads the table's rows in their order, and
  its result is the table with a leading axis of extent one. The statements hold for any float values.
-/
module

public import proofs.«01_k».proof.Proof.Gen.ReferenceIdeal.Run
public import Idealize.ShloMosaic.Lib.ReduceAll
public import Idealize.ShloMosaic.Lib.ValueIdxCore
public import Idealize.ShloMosaic.Lib.WordCmp
public import Idealize.ShloMosaic.Lib.Pipeline.Value

@[expose] public section

noncomputable section

namespace Cert.ReferenceIdeal.Lookup

open Idealize.ShloMosaic Idealize.ShloMosaic.TcCoe Idealize.ShloMosaic.ValueIdx Idealize.SL.Sem
open Cert.ReferenceIdeal Cert.ReferenceIdeal.Gen

variable {F : FTy → Type} [FloatOps F]

/-! ## The positions -/

/-- The positions that the reference looks up, as it computes them: 0 + 1 · k at place k. -/
def positions : IVec S1x8192 32 :=
  broadcastInDim S1x8192 ![1] bcast_S8192_S1x8192_1
    (addi (broadcastInDim S8192 ![] bcast_S_S8192 (constantI S_ 32 0#32))
      (muli (broadcastInDim S8192 ![] bcast_S_S8192 (constantI S_ 32 1#32)) (iotaInDim S8192 32 0)))

/-- The row numbers that the lookup uses: a negative position counts from the table's end. -/
def rows : IVec S1x8192x1 32 :=
  broadcastInDim S1x8192x1 ![0, 1] bcast_S1x8192_S1x8192x1_0_1
    (select (cmpi .slt positions (broadcastInDim S1x8192 ![] bcast_S_S1x8192 (constantI S_ 32 0#32)))
      (addi positions (broadcastInDim S1x8192 ![] bcast_S_S1x8192 (constantI S_ 32 8192#32)))
      positions)

/-- The position at place k is the word k. -/
theorem positions_apply (j : S1x8192.Idx) : positions j = BitVec.ofNat 32 (j 1).val := by
  show IntOp.addi 0#32 (IntOp.muli 1#32 (BitVec.ofNat 32 (j 1).val)) = _
  simp [IntOp.addi, IntOp.muli]

/-- The row number at place k is the word k: no position is negative. -/
theorem rows_apply (i : S1x8192x1.Idx) : rows i = BitVec.ofNat 32 (i 1).val := by
  have hi : (i 1).val < 8192 := (i 1).isLt
  show Scalar.select (IntOp.cmpi .slt (positions _) 0#32) _ (positions _) = _
  rw [positions_apply]
  show Scalar.select (IntOp.cmpi .slt (BitVec.ofNat 32 (i 1).val) (BitVec.ofNat 32 0)) _ (BitVec.ofNat 32 (i 1).val) = _
  rw [WordCmp.cmpi_slt_ofNat (by omega) (by omega)]
  simp [Scalar.select]

/-- The reference's own test, place by place, that the row number is one of the table's: at least 0 and at most 8191. -/
def inTable : IVec S1x8192 1 :=
  Host.reduce IntOp.andi
    (andi (cmpi .sge rows (broadcastInDim S1x8192x1 ![] bcast_S_S1x8192x1 (constantI S_ 32 0#32)))
      (cmpi .sle rows (broadcastInDim S1x8192x1 ![0, 1, 2] bcast_S1x1x1_S1x8192x1_0_1_2
        (broadcastInDim S1x1x1 ![2] bcast_S1_S1x1x1_2 (constantI S1 32 8191#32)))))
    (constantI S_ 1 1#1) reducesTo_S1x8192x1_S1x8192_d2 h_S_

/-- The test holds at every place. -/
theorem inTable_apply (j : S1x8192.Idx) : inTable j = 1#1 := by
  unfold inTable
  refine Host.reduce_andi_one _ _ _ _ _ rfl fun i => ?_
  have hi : (i 1).val < 8192 := (i 1).isLt
  show IntOp.andi (IntOp.cmpi .sge (rows i) (BitVec.ofNat 32 0)) (IntOp.cmpi .sle (rows i) (BitVec.ofNat 32 8191)) = 1#1
  rw [rows_apply, WordCmp.cmpi_sge_ofNat (by omega) (by omega), WordCmp.cmpi_sle_ofNat (by omega) (by omega),
    decide_eq_true (by omega), decide_eq_true (by omega)]
  rfl

/-! ## The lookup at one element -/

/-- The lookup's dimension numbers, by a short name. -/
abbrev dims := gather_S8192x1024_S1x8192x1_S1x8192x1024_2_0_n_n_0_2_11024

/-- Element (0, r, d) of the lookup is element (r, d) of the table. -/
theorem gather_rows_apply {α : Type} (x : S8192x1024.Idx → α) (y : S1x8192x1024.Idx) :
    Host.gather dims x rows y = x fun a => y a.succ := by
  have hy : (y 1).val < 8192 := (y 1).isLt
  refine congrArg x (funext fun a => Fin.ext ?_)
  show dims.start y rows a + dims.batchCoord y a + dims.offCoord y a = (y a.succ).val
  rw [dims.batchCoord_eq_zero _ _ List.not_mem_nil, Nat.add_zero]
  rcases (by decide : ∀ a : Fin S8192x1024.rank, a = 0 ∨ a = 1) a with rfl | rfl
  · rw [dims.offCoord_eq_zero _ _ (by decide), Nat.add_zero]
    unfold GatherDims.start
    rw [dif_pos (by decide), rows_apply]
    show min (BitVec.ofNat 32 (y 1).val).toInt.toNat 8191 = (y 1).val
    rw [BitVec.toInt_ofNat', Int.bmod_eq_of_le (by omega) (by omega)]
    omega
  · unfold GatherDims.start GatherDims.offCoord
    rw [dif_neg (by decide), dif_pos (by decide), Nat.zero_add]
    rfl

/-! ## The result -/

/-- The reference's result as a function of the table: the lookup, with a NaN at every place whose row number isn't one of
    the table's. -/
def result (x : FVec F S8192x1024 .f32) : FVec F S1x8192x1024 .f32 :=
  select (broadcastInDim S1x8192x1024 ![0, 1] bcast_S1x8192_S1x8192x1024_0_1 inTable)
    (Host.gather dims x rows)
    (broadcastInDim S1x8192x1024 ![] bcast_S_S1x8192x1024 (constant S_ .f32 0x7FC00000#32))

/-- The reference's result is the table with a leading axis of extent one. -/
theorem result_eq (x : FVec F S8192x1024 .f32)
    (h : S8192x1024.BroadcastsInDim S1x8192x1024 (![1, 2] : Fin 2 → Fin S1x8192x1024.rank)) :
    result x = broadcastInDim S1x8192x1024 ![1, 2] h x := by
  funext y
  have hb : broadcastInDim S1x8192x1024 ![0, 1] bcast_S1x8192_S1x8192x1024_0_1 inTable y = 1#1 := inTable_apply _
  rw [broadcastInDim_apply ![1, 2] h x y (fun a => y a.succ) (by
      intro a
      rcases (by decide : ∀ a : Fin S8192x1024.rank, a = 0 ∨ a = 1) a with rfl | rfl <;> rfl),
    ← gather_rows_apply x y]
  unfold result
  rw [select_apply, hb, select_one]

/-- THE RUN READ: the reference ends with its result holding the table with a leading axis of extent one, its two
    arguments unchanged and every semaphore at zero (it has none). -/
theorem run_value (m : (ℓ : Loc nD τ sig) → Buf (Elt F) ℓ) (ρ : Dev nD → PrngReg)
    (h : S8192x1024.BroadcastsInDim S1x8192x1024 (![1, 2] : Fin 2 → Fin S1x8192x1024.rank)) :
    θ_run defs (onTc (τ := τ) (main (F := F))) ⟨m, fun _ => 0, ρ⟩ (fun r => (∀ c : Dev nD,
      r.2.mem ((c.tc : Thread nD τ).loc main_v6)
          = broadcastInDim S1x8192x1024 ![1, 2] h (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r hr => ⟨fun c =>
      ⟨(hr c).1.trans (result_eq (m ((c.tc : Thread nD τ).loc main_arg1)) h), (hr c).2⟩,
    sem_eq_zero_of_no_sems (by decide) r.2⟩) (Value.run m ρ)

end Cert.ReferenceIdeal.Lookup

end
-- ==== Proof.lean ====
/-
  The proof of `Cert.Claim`: the blocked copy of the table and the reference end with equal results. What the kernel leaves
  is in `Proof/Blocks.lean`, what the reference leaves in `Proof/Lookup.lean`. Both results are the table with a leading
  axis of extent one. Here the five claims are read off the runs.
-/
module

public import proofs.«01_k».proof.Defs
public import proofs.«01_k».proof.Proof.Gen.Kernel.Frame
public import proofs.«01_k».proof.Proof.Blocks
public import proofs.«01_k».proof.Proof.Lookup

@[expose] public section

noncomputable section

namespace Cert.Proof

open Idealize.ShloMosaic Idealize.ShloMosaic.TcCoe Idealize.SL.Sem

/-- The kernel as written runs, leaves its arguments as they were and its semaphores at zero. -/
theorem quiescent_Kernel : Cert.quiescent_Kernel := fun m g _ => Cert.Kernel.Gen.frame m g

/-- So does the kernel over the extended reals. -/
theorem quiescent_KernelIdeal : Cert.quiescent_KernelIdeal := fun m g _ => Cert.KernelIdeal.Gen.frame m g

/-- So does the reference over the extended reals. -/
theorem quiescent_ReferenceIdeal : Cert.quiescent_ReferenceIdeal := fun m g _ =>
  (θ_run (Cert.ReferenceIdeal.defs (F := Ideal)) _ _).mono (fun _ h => ⟨fun c => (h.1 c).2, h.2⟩)
    (Cert.ReferenceIdeal.Lookup.run_value (F := Ideal) m g Cert.KernelIdeal.Gen.bcast_S8192x1024_S1x8192x1024_1_2)

/-- From equal arguments the kernel and the reference end with equal results: both hold the table with a leading axis of
    extent one. -/
theorem algebraic : Cert.algebraic_KernelIdeal_ReferenceIdeal := by
  intro m g m' g' _ hargs
  refine ⟨fun c => broadcastInDim Cert.KernelIdeal.S1x8192x1024 ![1, 2]
      Cert.KernelIdeal.Gen.bcast_S8192x1024_S1x8192x1024_1_2 (Cert.KernelIdeal.Blocks.table m c),
    Cert.KernelIdeal.Blocks.run_value (F := Ideal) m g,
    (θ_run (Cert.ReferenceIdeal.defs (F := Ideal)) _ _).mono (fun _ h c => ⟨(h.1 c).1.trans ?_, (h.1 c).2⟩)
      (Cert.ReferenceIdeal.Lookup.run_value (F := Ideal) m' g'
        Cert.KernelIdeal.Gen.bcast_S8192x1024_S1x8192x1024_1_2)⟩
  exact congrArg (broadcastInDim Cert.KernelIdeal.S1x8192x1024 ![1, 2] _) (hargs c).2

/-- The five claims together. -/
theorem claim : Cert.Claim :=
  ⟨Cert.Kernel.Gen.facts, Cert.KernelIdeal.Gen.facts, Cert.ReferenceIdeal.Gen.facts,
    quiescent_Kernel, quiescent_KernelIdeal, quiescent_ReferenceIdeal, trivial, algebraic⟩

end Cert.Proof

end
